-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S7x256x6144 : Shape := ⟨3, ![7, 256, 6144]⟩
abbrev S2112x6144 : Shape := ⟨2, ![2112, 6144]⟩
abbrev S2112 : Shape := ⟨1, ![2112]⟩
abbrev S1536 : Shape := ⟨1, ![1536]⟩
abbrev S512 : Shape := ⟨1, ![512]⟩
abbrev S1792x6144 : Shape := ⟨2, ![1792, 6144]⟩
abbrev S1x2112 : Shape := ⟨2, ![1, 2112]⟩
abbrev S1x1536 : Shape := ⟨2, ![1, 1536]⟩
abbrev S1x512 : Shape := ⟨2, ![1, 512]⟩
abbrev S1792x1536 : Shape := ⟨2, ![1792, 1536]⟩
abbrev S1792x512 : Shape := ⟨2, ![1792, 512]⟩
abbrev S1792x64 : Shape := ⟨2, ![1792, 64]⟩
abbrev S7x1x256 : Shape := ⟨3, ![7, 1, 256]⟩
abbrev S256x6144 : Shape := ⟨2, ![256, 6144]⟩
abbrev S256x1536 : Shape := ⟨2, ![256, 1536]⟩
abbrev S256x512 : Shape := ⟨2, ![256, 512]⟩
abbrev S256x64 : Shape := ⟨2, ![256, 64]⟩
abbrev S1x1x256 : Shape := ⟨3, ![1, 1, 256]⟩
abbrev S256 : Shape := ⟨1, ![256]⟩
abbrev S256x1 : Shape := ⟨2, ![256, 1]⟩
abbrev S1x256 : Shape := ⟨2, ![1, 256]⟩
abbrev S256x2112 : Shape := ⟨2, ![256, 2112]⟩
abbrev S7x256x1536 : Shape := ⟨3, ![7, 256, 1536]⟩
abbrev S7x256x512 : Shape := ⟨3, ![7, 256, 512]⟩
abbrev S7x256x64 : Shape := ⟨3, ![7, 256, 64]⟩
abbrev S7x256 : Shape := ⟨2, ![7, 256]⟩

abbrev nBuf : Space → Nat
  | .hbm => 19
  | .vmem => 16
  | .smem => 0
  | _ => 0

abbrev bufTy : (tb : Table) → Fin (tcTables nBuf tb) → BufTy
  | .hbm, ⟨0, _⟩ => ⟨S7x256x6144, .bf16⟩
  | .hbm, ⟨1, _⟩ => ⟨S2112x6144, .i8⟩
  | .hbm, ⟨2, _⟩ => ⟨S2112, .f32⟩
  | .hbm, ⟨3, _⟩ => ⟨S1536, .f32⟩
  | .hbm, ⟨4, _⟩ => ⟨S512, .f32⟩
  | .hbm, ⟨5, _⟩ => ⟨S1792x6144, .bf16⟩
  | .hbm, ⟨6, _⟩ => ⟨S1x2112, .f32⟩
  | .hbm, ⟨7, _⟩ => ⟨S1x1536, .f32⟩
  | .hbm, ⟨8, _⟩ => ⟨S1x512, .f32⟩
  | .hbm, ⟨9, _⟩ => ⟨S1792x1536, .bf16⟩
  | .hbm, ⟨10, _⟩ => ⟨S1792x512, .bf16⟩
  | .hbm, ⟨11, _⟩ => ⟨S1792x64, .bf16⟩
  | .hbm, ⟨12, _⟩ => ⟨S1792x6144, .i8⟩
  | .hbm, ⟨13, _⟩ => ⟨S7x1x256, .f32⟩
  | .hbm, ⟨14, _⟩ => ⟨S7x256x1536, .bf16⟩
  | .hbm, ⟨15, _⟩ => ⟨S7x256x512, .bf16⟩
  | .hbm, ⟨16, _⟩ => ⟨S7x256x64, .bf16⟩
  | .hbm, ⟨17, _⟩ => ⟨S7x256x6144, .i8⟩
  | .hbm, ⟨18, _⟩ => ⟨S7x256, .f32⟩
  | .local _ .vmem, ⟨0, _⟩ => ⟨S256x6144, .bf16⟩
  | .local _ .vmem, ⟨1, _⟩ => ⟨S256x6144, .bf16⟩
  | .local _ .vmem, ⟨2, _⟩ => ⟨S2112x6144, .i8⟩
  | .local _ .vmem, ⟨3, _⟩ => ⟨S1x2112, .f32⟩
  | .local _ .vmem, ⟨4, _⟩ => ⟨S1x1536, .f32⟩
  | .local _ .vmem, ⟨5, _⟩ => ⟨S1x512, .f32⟩
  | .local _ .vmem, ⟨6, _⟩ => ⟨S256x1536, .bf16⟩
  | .local _ .vmem, ⟨7, _⟩ => ⟨S256x1536, .bf16⟩
  | .local _ .vmem, ⟨8, _⟩ => ⟨S256x512, .bf16⟩
  | .local _ .vmem, ⟨9, _⟩ => ⟨S256x512, .bf16⟩
  | .local _ .vmem, ⟨10, _⟩ => ⟨S256x64, .bf16⟩
  | .local _ .vmem, ⟨11, _⟩ => ⟨S256x64, .bf16⟩
  | .local _ .vmem, ⟨12, _⟩ => ⟨S256x6144, .i8⟩
  | .local _ .vmem, ⟨13, _⟩ => ⟨S256x6144, .i8⟩
  | .local _ .vmem, ⟨14, _⟩ => ⟨S1x1x256, .f32⟩
  | .local _ .vmem, ⟨15, _⟩ => ⟨S1x1x256, .f32⟩
  | _, _ => ⟨S7x256x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2112x6144 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2112 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x6144 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S7x256x6144 : Shape := ⟨3, ![7, 256, 6144]⟩
abbrev S2112x6144 : Shape := ⟨2, ![2112, 6144]⟩
abbrev S2112 : Shape := ⟨1, ![2112]⟩
abbrev S1536 : Shape := ⟨1, ![1536]⟩
abbrev S512 : Shape := ⟨1, ![512]⟩
abbrev S7x256x1536 : Shape := ⟨3, ![7, 256, 1536]⟩
abbrev S7x256x512 : Shape := ⟨3, ![7, 256, 512]⟩
abbrev S7x256x64 : Shape := ⟨3, ![7, 256, 64]⟩
abbrev S7x256 : Shape := ⟨2, ![7, 256]⟩
abbrev S7x256x1 : Shape := ⟨3, ![7, 256, 1]⟩
abbrev S7x256x2112 : Shape := ⟨3, ![7, 256, 2112]⟩
abbrev S1x1x2112 : Shape := ⟨3, ![1, 1, 2112]⟩
abbrev S1x1x1536 : Shape := ⟨3, ![1, 1, 1536]⟩
abbrev S1x1x512 : Shape := ⟨3, ![1, 1, 512]⟩

abbrev nBuf : Space → Nat
  | .hbm => 10
  | .vmem => 10
  | .smem => 0
  | _ => 0

abbrev bufTy : (tb : Table) → Fin (tcTables nBuf tb) → BufTy
  | .hbm, ⟨0, _⟩ => ⟨S7x256x6144, .bf16⟩
  | .hbm, ⟨1, _⟩ => ⟨S2112x6144, .i8⟩
  | .hbm, ⟨2, _⟩ => ⟨S2112, .f32⟩
  | .hbm, ⟨3, _⟩ => ⟨S1536, .f32⟩
  | .hbm, ⟨4, _⟩ => ⟨S512, .f32⟩
  | .hbm, ⟨5, _⟩ => ⟨S7x256x1536, .bf16⟩
  | .hbm, ⟨6, _⟩ => ⟨S7x256x512, .bf16⟩
  | .hbm, ⟨7, _⟩ => ⟨S7x256x64, .bf16⟩
  | .hbm, ⟨8, _⟩ => ⟨S7x256x6144, .i8⟩
  | .hbm, ⟨9, _⟩ => ⟨S7x256, .f32⟩
  | .local _ .vmem, ⟨0, _⟩ => ⟨S7x256x6144, .bf16⟩
  | .local _ .vmem, ⟨1, _⟩ => ⟨S2112x6144, .i8⟩
  | .local _ .vmem, ⟨2, _⟩ => ⟨S2112, .f32⟩
  | .local _ .vmem, ⟨3, _⟩ => ⟨S1536, .f32⟩
  | .local _ .vmem, ⟨4, _⟩ => ⟨S512, .f32⟩
  | .local _ .vmem, ⟨5, _⟩ => ⟨S7x256x1536, .bf16⟩
  | .local _ .vmem, ⟨6, _⟩ => ⟨S7x256x512, .bf16⟩
  | .local _ .vmem, ⟨7, _⟩ => ⟨S7x256x64, .bf16⟩
  | .local _ .vmem, ⟨8, _⟩ => ⟨S7x256x6144, .i8⟩
  | .local _ .vmem, ⟨9, _⟩ => ⟨S7x256, .f32⟩
  | _, _ => ⟨S7x256x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S7x256x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2112x6144 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2112 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7x256x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7x256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7x256x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7x256x6144 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S7x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Codes.lean ====
module

public import Idealize.ShloMosaic.Lib.Pointwise
public import proofs.«01_k».proof.Proof.Gen.KernelIdeal.Skeleton

@[expose] public section

noncomputable section

namespace Cert.Codes

open Idealize.ShloMosaic

/-- The bit pattern that both programs write for the upper bound of a code is `127`. -/
theorem upper : Ideal.ofBits .f32 0x42FE0000#32 = ((127 : ℝ) : EReal) := by
  simp [Ideal.ofBits, Ideal.ieee]
  rw [← EReal.coe_mul]
  norm_num

/-- The bit pattern that both programs write for the lower bound of a code is `-127`. -/
theorem lower : Ideal.ofBits .f32 0xC2FE0000#32 = ((-127 : ℝ) : EReal) := by
  simp [Ideal.ofBits, Ideal.ieee]
  rw [← EReal.coe_mul]
  norm_num

/-- A rounded number clipped to `[-127, 127]` is an integer of that range, an infinity included: it goes to the nearer end. -/
theorem clip_eq_int (z : EReal) :
    ∃ n : ℤ, -127 ≤ n ∧ n ≤ 127 ∧
      min ((127 : ℝ) : EReal) (max ((-127 : ℝ) : EReal) (Ideal.liftRound Ideal.roundHalfEven z)) = ((n : ℝ) : EReal) := by
  induction z with
  | bot => exact ⟨-127, by norm_num, by norm_num, by
      rw [Ideal.liftRound_bot, max_eq_left bot_le, ← EReal.coe_strictMono.monotone.map_min]; norm_num⟩
  | top => exact ⟨127, by norm_num, by norm_num, by
      rw [Ideal.liftRound_top, max_eq_right le_top, min_eq_left le_top]; norm_num⟩
  | coe r =>
    refine ⟨min 127 (max (-127) (Ideal.roundHalfEven r)), by omega, by omega, ?_⟩
    rw [Ideal.liftRound_coe, ← EReal.coe_strictMono.monotone.map_max, ← EReal.coe_strictMono.monotone.map_min]
    push_cast
    rfl

/-- Converting an integer of `[-127, 127]` to an eight-bit code and reading the code back gives that integer. -/
theorem toInt_fptosi (n : ℤ) (h₁ : -127 ≤ n) (h₂ : n ≤ 127) : (Ideal.fptosi 8 ((n : ℝ) : EReal)).toInt = n := by
  have h : Ideal.fptosi 8 ((n : ℝ) : EReal) = BitVec.ofInt 8 n := by
    unfold Ideal.fptosi
    rw [Ideal.toIntClamped_coe, Int.floor_intCast, Int.ceil_intCast, ite_self]
    congr 1
    norm_num
    omega
  rw [h, BitVec.toInt_ofInt]
  simp [Int.bmod]
  omega

/-- The code of a rounded and clipped number, read back as a number, is that number: the conversion to eight bits loses nothing. -/
theorem code_read_back (z : EReal) :
    (((Ideal.fptosi 8 (min (Ideal.ofBits .f32 0x42FE0000#32)
      (max (Ideal.ofBits .f32 0xC2FE0000#32) (Ideal.liftRound Ideal.roundHalfEven z)))).toInt : ℝ) : EReal)
      = min (Ideal.ofBits .f32 0x42FE0000#32)
          (max (Ideal.ofBits .f32 0xC2FE0000#32) (Ideal.liftRound Ideal.roundHalfEven z)) := by
  rw [upper, lower]
  obtain ⟨n, h₁, h₂, h⟩ := clip_eq_int z
  rw [h, toInt_fptosi n h₁ h₂]

end Cert.Codes

end
-- ==== Proof.Rows.lean ====
module

public import proofs.«01_k».proof.Proof.Codes
public import proofs.«01_k».proof.Proof.Gen.KernelIdeal.Frame
public import proofs.«01_k».proof.Proof.Gen.ReferenceIdeal.Frame

@[expose] public section

set_option maxRecDepth 16384

noncomputable section

namespace Cert.Rows

open Idealize.ShloMosaic

/-- `x` is batch entry `b` of `X`, row by row. -/
def Entry (b : Fin 7) (x : FVec Ideal Cert.KernelIdeal.S256x6144 .bf16)
    (X : FVec Ideal Cert.ReferenceIdeal.S7x256x6144 .bf16) : Prop :=
  ∀ (r : Fin 256) (k : Fin 6144), x (ix2 r k) = X (ix3 b r k)

/-- The scale of an absolute maximum, elementwise: one where the maximum is zero, elsewhere the maximum over `127`. -/
def scaleOf {S : Shape} (v : FVec Ideal S .f32) : FVec Ideal S .f32 :=
  select (cmpf .oeq v (broadcast S (Scalar.ofBits .f32 0x00000000#32))) (broadcast S (Scalar.ofBits .f32 0x3F800000#32))
    (divf v (broadcast S (Scalar.ofBits .f32 0x42FE0000#32)))

/-- Equal maxima have equal scales. -/
theorem scaleOf_congr {S T : Shape} {v : FVec Ideal S .f32} {u : FVec Ideal T .f32} {i : S.Idx} {j : T.Idx}
    (h : v i = u j) : scaleOf v i = scaleOf u j := by
  pointwise [scaleOf]
  rw [h]

/-- The absolute maximum of each row of the kernel's block. -/
def kernelMax (x : FVec Ideal Cert.KernelIdeal.S256x6144 .bf16) : FVec Ideal Cert.KernelIdeal.S256x1 .f32 :=
  shapeCast Cert.KernelIdeal.S256x1
    (multiReduction .maximumf [1] Cert.KernelIdeal.S256 (absf (Cert.KernelIdeal.Gen.k0_pay4 (F := Ideal) x)) 0xFF800000#32
      Cert.KernelIdeal.Gen.reduces_S256x6144_S256 (.inl rfl) rfl)
    Cert.KernelIdeal.Gen.shapeCasts_S256_S256x1

/-- The absolute maximum of each row of the reference's array. -/
def referenceMax (X : FVec Ideal Cert.ReferenceIdeal.S7x256x6144 .bf16) : FVec Ideal Cert.ReferenceIdeal.S7x256 .f32 :=
  multiReduction .maximumf [2] Cert.ReferenceIdeal.S7x256 (absf (Cert.ReferenceIdeal.Gen.k0_pay4 (F := Ideal) X)) 0xFF800000#32
    Cert.ReferenceIdeal.Gen.reduces_S7x256x6144_S7x256 (.inl rfl) rfl

/-- The kernel's scales are the scales of its rows' maxima. -/
theorem kernel_scale (x : FVec Ideal Cert.KernelIdeal.S256x6144 .bf16) :
    Cert.KernelIdeal.Gen.k0_pay5 (F := Ideal) x = scaleOf (kernelMax x) := rfl

/-- The reference's scales are the scales of its rows' maxima. -/
theorem reference_scale (X : FVec Ideal Cert.ReferenceIdeal.S7x256x6144 .bf16) :
    Cert.ReferenceIdeal.Gen.k0_pay5 (F := Ideal) X = scaleOf (referenceMax X) := rfl

/-- A quotient rounded to the nearest integer and clipped to `[-127, 127]`, elementwise. -/
def clip {S : Shape} (v : FVec Ideal S .f32) : FVec Ideal S .f32 :=
  minimumf (broadcast S (Scalar.ofBits .f32 0x42FE0000#32)) (maximumf (broadcast S (Scalar.ofBits .f32 0xC2FE0000#32)) (roundeven v))

/-- Equal quotients have equal codes. -/
theorem code_congr {S T : Shape} {v : FVec Ideal S .f32} {u : FVec Ideal T .f32} {i : S.Idx} {j : T.Idx}
    (h : v i = u j) : fptosi 8 (clip v) i = fptosi 8 (clip u) j := by
  pointwise [clip]
  rw [h]

/-- A code read as a number is the clipped quotient that it was made from. -/
theorem code_value {S : Shape} (v : FVec Ideal S .f32) (i : S.Idx) :
    (((fptosi 8 (clip v) i).toInt : ℝ) : EReal) = clip v i := by
  pointwise [clip]
  exact Cert.Codes.code_read_back _

/-- The kernel's block divided by its rows' scales. -/
def kernelQuotient (x : FVec Ideal Cert.KernelIdeal.S256x6144 .bf16) : FVec Ideal Cert.KernelIdeal.S256x6144 .f32 :=
  divf (Cert.KernelIdeal.Gen.k0_pay4 x)
    (broadcastTo Cert.KernelIdeal.S256x6144 (Cert.KernelIdeal.Gen.k0_pay5 x) Cert.KernelIdeal.Gen.broadcasts_S256x1_S256x6144)

/-- The reference's array divided by its rows' scales. -/
def referenceQuotient (X : FVec Ideal Cert.ReferenceIdeal.S7x256x6144 .bf16) : FVec Ideal Cert.ReferenceIdeal.S7x256x6144 .f32 :=
  divf (Cert.ReferenceIdeal.Gen.k0_pay4 X)
    (broadcastTo Cert.ReferenceIdeal.S7x256x6144
      (shapeCast Cert.ReferenceIdeal.S7x256x1 (Cert.ReferenceIdeal.Gen.k0_pay5 X) Cert.ReferenceIdeal.Gen.shapeCasts_S7x256_S7x256x1)
      Cert.ReferenceIdeal.Gen.broadcasts_S7x256x1_S7x256x6144)

/-- Equal entries with equal scales have equal quotients. -/
theorem quotient_congr (y : FVec Ideal Cert.KernelIdeal.S256x6144 .f32) (s : FVec Ideal Cert.KernelIdeal.S256x1 .f32)
    (Y : FVec Ideal Cert.ReferenceIdeal.S7x256x6144 .f32) (t : FVec Ideal Cert.ReferenceIdeal.S7x256 .f32)
    (b : Fin 7) (r : Fin 256) (k : Fin 6144) (hs : s (ix2 r 0) = t (ix2 b r)) (hy : y (ix2 r k) = Y (ix3 b r k)) :
    divf y (broadcastTo Cert.KernelIdeal.S256x6144 s Cert.KernelIdeal.Gen.broadcasts_S256x1_S256x6144) (ix2 r k)
      = divf Y (broadcastTo Cert.ReferenceIdeal.S7x256x6144
          (shapeCast Cert.ReferenceIdeal.S7x256x1 t Cert.ReferenceIdeal.Gen.shapeCasts_S7x256_S7x256x1)
          Cert.ReferenceIdeal.Gen.broadcasts_S7x256x1_S7x256x6144) (ix3 b r k) := by
  pointwise
  rw [hs, hy]

/-- What the kernel multiplies is its quotients, rounded and clipped. -/
theorem kernel_clip (x : FVec Ideal Cert.KernelIdeal.S256x6144 .bf16) :
    Cert.KernelIdeal.Gen.k0_pay6 (F := Ideal) x = clip (kernelQuotient x) := rfl

/-- The kernel's codes are its quotients, rounded and clipped, in eight bits. -/
theorem kernel_code (x : FVec Ideal Cert.KernelIdeal.S256x6144 .bf16) :
    Cert.KernelIdeal.Gen.k0_pay7 (F := Ideal) x = fptosi 8 (clip (kernelQuotient x)) := rfl

/-- The reference's codes are its quotients, rounded and clipped, in eight bits. -/
theorem reference_code (X : FVec Ideal Cert.ReferenceIdeal.S7x256x6144 .bf16) :
    Cert.ReferenceIdeal.Gen.k0_pay6 (F := Ideal) X = fptosi 8 (clip (referenceQuotient X)) := rfl

variable {b : Fin 7} {x : FVec Ideal Cert.KernelIdeal.S256x6144 .bf16}
  {X : FVec Ideal Cert.ReferenceIdeal.S7x256x6144 .bf16} (hx : Entry b x X)
include hx

/-- A row of the block and the same row of the array have one absolute maximum. -/
theorem max_eq (r : Fin 256) : kernelMax x (ix2 r 0) = referenceMax X (ix2 b r) := by
  pointwise [kernelMax, referenceMax, Cert.KernelIdeal.Gen.k0_pay4, Cert.ReferenceIdeal.Gen.k0_pay4,
    show ∀ (r : Fin 256) (k : Fin 6144), x (ix2 r k) = X (ix3 b r k) from hx]

/-- A row's scale in the kernel's block is the reference's scale of the same row. -/
theorem scale_eq (r : Fin 256) :
    Cert.KernelIdeal.Gen.k0_pay5 (F := Ideal) x (ix2 r 0) = Cert.ReferenceIdeal.Gen.k0_pay5 (F := Ideal) X (ix2 b r) := by
  rw [kernel_scale, reference_scale]
  exact scaleOf_congr (max_eq hx r)

/-- The scales as the kernel stores them, turned into a row, are the reference's. -/
theorem scale_row_eq (r : Fin 256) :
    Cert.KernelIdeal.Gen.k0_pay8 (F := Ideal) x (ix3 0 0 r) = Cert.ReferenceIdeal.Gen.k0_pay5 (F := Ideal) X (ix2 b r) := by
  pointwise [Cert.KernelIdeal.Gen.k0_pay8]
  exact scale_eq hx r

/-- The entries as the kernel reads them are the entries as the reference reads them. -/
theorem read_eq (r : Fin 256) (k : Fin 6144) :
    Cert.KernelIdeal.Gen.k0_pay4 (F := Ideal) x (ix2 r k) = Cert.ReferenceIdeal.Gen.k0_pay4 (F := Ideal) X (ix3 b r k) := by
  pointwise [Cert.KernelIdeal.Gen.k0_pay4, Cert.ReferenceIdeal.Gen.k0_pay4]
  exact hx r k

/-- The quotients by the scales agree. -/
theorem quotient_eq (r : Fin 256) (k : Fin 6144) : kernelQuotient x (ix2 r k) = referenceQuotient X (ix3 b r k) :=
  quotient_congr _ _ _ _ b r k (scale_eq hx r) (read_eq hx r k)

/-- The kernel's codes are the reference's. -/
theorem code_eq (r : Fin 256) (k : Fin 6144) :
    Cert.KernelIdeal.Gen.k0_pay7 (F := Ideal) x (ix2 r k) = Cert.ReferenceIdeal.Gen.k0_pay6 (F := Ideal) X (ix3 b r k) := by
  rw [kernel_code, reference_code]
  exact code_congr (quotient_eq hx r k)

/-- The numbers that the kernel multiplies are the reference's codes read as numbers. -/
theorem code_value_eq (r : Fin 256) (k : Fin 6144) :
    Cert.KernelIdeal.Gen.k0_pay6 (F := Ideal) x (ix2 r k)
      = (((Cert.ReferenceIdeal.Gen.k0_pay6 (F := Ideal) X (ix3 b r k)).toInt : ℝ) : EReal) := by
  rw [← code_eq hx, kernel_clip, kernel_code]
  exact (code_value _ _).symm

end Cert.Rows

end
-- ==== Proof.Columns.lean ====
module

public import proofs.«01_k».proof.Proof.Rows

@[expose] public section

set_option maxRecDepth 16384

noncomputable section

namespace Cert.Columns

open Idealize.ShloMosaic

/-- The inverse root of a sum of squares over its count `n`, a small constant added before the root. -/
def inverseRoot {S : Shape} (n : BitVec 32) (v : FVec Ideal S .f32) : FVec Ideal S .f32 :=
  rsqrt (addf (divf v (broadcast S (Scalar.ofBits .f32 n))) (broadcast S (Scalar.ofBits .f32 0x358637BD#32)))

/-- Equal sums have equal inverse roots. -/
theorem inverseRoot_congr {S T : Shape} (n : BitVec 32) {v : FVec Ideal S .f32} {u : FVec Ideal T .f32} {i : S.Idx} {j : T.Idx}
    (h : v i = u j) : inverseRoot n v i = inverseRoot n u j := by
  pointwise [inverseRoot]
  rw [h]

/-! ## The first 1536 columns -/

/-- The sum of the squares of each row of the kernel's 1536 columns. -/
def kernelSquares1536 (y : FVec Ideal Cert.KernelIdeal.S256x1536 .f32) : FVec Ideal Cert.KernelIdeal.S256x1 .f32 :=
  shapeCast Cert.KernelIdeal.S256x1
    (multiReduction .add [1] Cert.KernelIdeal.S256 (mulf y y) 0x00000000#32 Cert.KernelIdeal.Gen.reduces_S256x1536_S256 (.inl rfl) rfl)
    Cert.KernelIdeal.Gen.shapeCasts_S256_S256x1

/-- The sum of the squares of each row of the reference's 1536 columns. -/
def referenceSquares1536 (Y : FVec Ideal Cert.ReferenceIdeal.S7x256x1536 .f32) : FVec Ideal Cert.ReferenceIdeal.S7x256x1 .f32 :=
  shapeCast Cert.ReferenceIdeal.S7x256x1
    (multiReduction .add [2] Cert.ReferenceIdeal.S7x256 (mulf Y Y) 0x00000000#32 Cert.ReferenceIdeal.Gen.reduces_S7x256x1536_S7x256
      (.inl rfl) rfl)
    Cert.ReferenceIdeal.Gen.shapeCasts_S7x256_S7x256x1

/-- Equal rows have equal sums of squares. -/
theorem squares1536_congr (y : FVec Ideal Cert.KernelIdeal.S256x1536 .f32) (Y : FVec Ideal Cert.ReferenceIdeal.S7x256x1536 .f32)
    (b : Fin 7) (r : Fin 256) (h : ∀ l : Fin 1536, y (ix2 r l) = Y (ix3 b r l)) :
    kernelSquares1536 y (ix2 r 0) = referenceSquares1536 Y (ix3 b r 0) := by
  pointwise [kernelSquares1536, referenceSquares1536, h]

/-- The kernel's rows, each multiplied by one number, and each column by one. -/
def kernelScaled1536 (y : FVec Ideal Cert.KernelIdeal.S256x1536 .f32) (d : FVec Ideal Cert.KernelIdeal.S256x1 .f32)
    (g : FVec Ideal Cert.KernelIdeal.S1x1536 .f32) : FVec Ideal Cert.KernelIdeal.S256x1536 .bf16 :=
  truncf .bf16
    (mulf (mulf y (broadcastTo Cert.KernelIdeal.S256x1536 d Cert.KernelIdeal.Gen.broadcasts_S256x1_S256x1536))
      (broadcastTo Cert.KernelIdeal.S256x1536 (shapeCast Cert.KernelIdeal.S1x1536 g Cert.KernelIdeal.Gen.shapeCasts_S1x1536_S1x1536)
        Cert.KernelIdeal.Gen.broadcasts_S1x1536_S256x1536))
    Cert.KernelIdeal.Gen.bitsLt_bf16_f32

/-- The reference's rows, each multiplied by one number, and each column by one. -/
def referenceScaled1536 (Y : FVec Ideal Cert.ReferenceIdeal.S7x256x1536 .f32) (D : FVec Ideal Cert.ReferenceIdeal.S7x256x1 .f32)
    (G : FVec Ideal Cert.ReferenceIdeal.S1536 .f32) : FVec Ideal Cert.ReferenceIdeal.S7x256x1536 .bf16 :=
  truncf .bf16
    (mulf (mulf Y (broadcastTo Cert.ReferenceIdeal.S7x256x1536 D Cert.ReferenceIdeal.Gen.broadcasts_S7x256x1_S7x256x1536))
      (broadcastTo Cert.ReferenceIdeal.S7x256x1536
        (shapeCast Cert.ReferenceIdeal.S1x1x1536 G Cert.ReferenceIdeal.Gen.shapeCasts_S1536_S1x1x1536)
        Cert.ReferenceIdeal.Gen.broadcasts_S1x1x1536_S7x256x1536))
    Cert.ReferenceIdeal.Gen.bitsLt_bf16_f32

/-- Equal entries, multiplied by equal numbers, are equal. -/
theorem scaled1536_congr (y : FVec Ideal Cert.KernelIdeal.S256x1536 .f32) (Y : FVec Ideal Cert.ReferenceIdeal.S7x256x1536 .f32)
    (d : FVec Ideal Cert.KernelIdeal.S256x1 .f32) (D : FVec Ideal Cert.ReferenceIdeal.S7x256x1 .f32)
    (g : FVec Ideal Cert.KernelIdeal.S1x1536 .f32) (G : FVec Ideal Cert.ReferenceIdeal.S1536 .f32)
    (b : Fin 7) (r : Fin 256) (n : Fin 1536) (hy : y (ix2 r n) = Y (ix3 b r n)) (hd : d (ix2 r 0) = D (ix3 b r 0))
    (hg : g (ix2 0 n) = G (ix1 n)) :
    kernelScaled1536 y d g (ix2 r n) = referenceScaled1536 Y D G (ix3 b r n) := by
  pointwise [kernelScaled1536, referenceScaled1536]
  rw [hy, hd, hg]

/-- The first 1536 columns of the kernel's product. -/
def kernelColumns1536 (y : FVec Ideal Cert.KernelIdeal.S256x2112 .f32) : FVec Ideal Cert.KernelIdeal.S256x1536 .f32 :=
  extractStridedSlice Cert.KernelIdeal.S256x1536 ![0, 0] y Cert.KernelIdeal.Gen.slices_S256x2112_o0_0_S256x1536

/-- The first 1536 columns of the reference's product. -/
def referenceColumns1536 (Y : FVec Ideal Cert.ReferenceIdeal.S7x256x2112 .f32) : FVec Ideal Cert.ReferenceIdeal.S7x256x1536 .f32 :=
  extractStridedSlice Cert.ReferenceIdeal.S7x256x1536 ![0, 0, 0] Y Cert.ReferenceIdeal.Gen.slices_S7x256x2112_o0_0_0_S7x256x1536

/-- Equal rows have equal first 1536 columns. -/
theorem columns1536_congr (y : FVec Ideal Cert.KernelIdeal.S256x2112 .f32) (Y : FVec Ideal Cert.ReferenceIdeal.S7x256x2112 .f32)
    (b : Fin 7) (r : Fin 256) (h : ∀ n : Fin 2112, y (ix2 r n) = Y (ix3 b r n)) (n : Fin 1536) :
    kernelColumns1536 y (ix2 r n) = referenceColumns1536 Y (ix3 b r n) := by
  pointwise [kernelColumns1536, referenceColumns1536, h]

/-- Equal rows, normalised, are equal. -/
theorem normalised1536_congr (y : FVec Ideal Cert.KernelIdeal.S256x1536 .f32) (Y : FVec Ideal Cert.ReferenceIdeal.S7x256x1536 .f32)
    (g : FVec Ideal Cert.KernelIdeal.S1x1536 .f32) (G : FVec Ideal Cert.ReferenceIdeal.S1536 .f32)
    (b : Fin 7) (r : Fin 256) (n : Fin 1536) (hy : ∀ l : Fin 1536, y (ix2 r l) = Y (ix3 b r l))
    (hg : g (ix2 0 n) = G (ix1 n)) :
    kernelScaled1536 y (inverseRoot 0x44C00000#32 (kernelSquares1536 y)) g (ix2 r n)
      = referenceScaled1536 Y (inverseRoot 0x44C00000#32 (referenceSquares1536 Y)) G (ix3 b r n) :=
  scaled1536_congr _ _ _ _ _ _ b r n (hy n) (inverseRoot_congr 0x44C00000#32 (squares1536_congr y Y b r hy)) hg

/-! ## The next 512 columns -/

/-- The sum of the squares of each row of the kernel's 512 columns. -/
def kernelSquares512 (y : FVec Ideal Cert.KernelIdeal.S256x512 .f32) : FVec Ideal Cert.KernelIdeal.S256x1 .f32 :=
  shapeCast Cert.KernelIdeal.S256x1
    (multiReduction .add [1] Cert.KernelIdeal.S256 (mulf y y) 0x00000000#32 Cert.KernelIdeal.Gen.reduces_S256x512_S256 (.inl rfl) rfl)
    Cert.KernelIdeal.Gen.shapeCasts_S256_S256x1

/-- The sum of the squares of each row of the reference's 512 columns. -/
def referenceSquares512 (Y : FVec Ideal Cert.ReferenceIdeal.S7x256x512 .f32) : FVec Ideal Cert.ReferenceIdeal.S7x256x1 .f32 :=
  shapeCast Cert.ReferenceIdeal.S7x256x1
    (multiReduction .add [2] Cert.ReferenceIdeal.S7x256 (mulf Y Y) 0x00000000#32 Cert.ReferenceIdeal.Gen.reduces_S7x256x512_S7x256
      (.inl rfl) rfl)
    Cert.ReferenceIdeal.Gen.shapeCasts_S7x256_S7x256x1

/-- Equal rows have equal sums of squares. -/
theorem squares512_congr (y : FVec Ideal Cert.KernelIdeal.S256x512 .f32) (Y : FVec Ideal Cert.ReferenceIdeal.S7x256x512 .f32)
    (b : Fin 7) (r : Fin 256) (h : ∀ l : Fin 512, y (ix2 r l) = Y (ix3 b r l)) :
    kernelSquares512 y (ix2 r 0) = referenceSquares512 Y (ix3 b r 0) := by
  pointwise [kernelSquares512, referenceSquares512, h]

/-- The kernel's rows, each multiplied by one number, and each column by one. -/
def kernelScaled512 (y : FVec Ideal Cert.KernelIdeal.S256x512 .f32) (d : FVec Ideal Cert.KernelIdeal.S256x1 .f32)
    (g : FVec Ideal Cert.KernelIdeal.S1x512 .f32) : FVec Ideal Cert.KernelIdeal.S256x512 .bf16 :=
  truncf .bf16
    (mulf (mulf y (broadcastTo Cert.KernelIdeal.S256x512 d Cert.KernelIdeal.Gen.broadcasts_S256x1_S256x512))
      (broadcastTo Cert.KernelIdeal.S256x512 (shapeCast Cert.KernelIdeal.S1x512 g Cert.KernelIdeal.Gen.shapeCasts_S1x512_S1x512)
        Cert.KernelIdeal.Gen.broadcasts_S1x512_S256x512))
    Cert.KernelIdeal.Gen.bitsLt_bf16_f32

/-- The reference's rows, each multiplied by one number, and each column by one. -/
def referenceScaled512 (Y : FVec Ideal Cert.ReferenceIdeal.S7x256x512 .f32) (D : FVec Ideal Cert.ReferenceIdeal.S7x256x1 .f32)
    (G : FVec Ideal Cert.ReferenceIdeal.S512 .f32) : FVec Ideal Cert.ReferenceIdeal.S7x256x512 .bf16 :=
  truncf .bf16
    (mulf (mulf Y (broadcastTo Cert.ReferenceIdeal.S7x256x512 D Cert.ReferenceIdeal.Gen.broadcasts_S7x256x1_S7x256x512))
      (broadcastTo Cert.ReferenceIdeal.S7x256x512
        (shapeCast Cert.ReferenceIdeal.S1x1x512 G Cert.ReferenceIdeal.Gen.shapeCasts_S512_S1x1x512)
        Cert.ReferenceIdeal.Gen.broadcasts_S1x1x512_S7x256x512))
    Cert.ReferenceIdeal.Gen.bitsLt_bf16_f32

/-- Equal entries, multiplied by equal numbers, are equal. -/
theorem scaled512_congr (y : FVec Ideal Cert.KernelIdeal.S256x512 .f32) (Y : FVec Ideal Cert.ReferenceIdeal.S7x256x512 .f32)
    (d : FVec Ideal Cert.KernelIdeal.S256x1 .f32) (D : FVec Ideal Cert.ReferenceIdeal.S7x256x1 .f32)
    (g : FVec Ideal Cert.KernelIdeal.S1x512 .f32) (G : FVec Ideal Cert.ReferenceIdeal.S512 .f32)
    (b : Fin 7) (r : Fin 256) (n : Fin 512) (hy : y (ix2 r n) = Y (ix3 b r n)) (hd : d (ix2 r 0) = D (ix3 b r 0))
    (hg : g (ix2 0 n) = G (ix1 n)) :
    kernelScaled512 y d g (ix2 r n) = referenceScaled512 Y D G (ix3 b r n) := by
  pointwise [kernelScaled512, referenceScaled512]
  rw [hy, hd, hg]

/-- The next 512 columns of the kernel's product. -/
def kernelColumns512 (y : FVec Ideal Cert.KernelIdeal.S256x2112 .f32) : FVec Ideal Cert.KernelIdeal.S256x512 .f32 :=
  extractStridedSlice Cert.KernelIdeal.S256x512 ![0, 1536] y Cert.KernelIdeal.Gen.slices_S256x2112_o0_1536_S256x512

/-- The next 512 columns of the reference's product. -/
def referenceColumns512 (Y : FVec Ideal Cert.ReferenceIdeal.S7x256x2112 .f32) : FVec Ideal Cert.ReferenceIdeal.S7x256x512 .f32 :=
  extractStridedSlice Cert.ReferenceIdeal.S7x256x512 ![0, 0, 1536] Y Cert.ReferenceIdeal.Gen.slices_S7x256x2112_o0_0_1536_S7x256x512

/-- Equal rows have equal next 512 columns. -/
theorem columns512_congr (y : FVec Ideal Cert.KernelIdeal.S256x2112 .f32) (Y : FVec Ideal Cert.ReferenceIdeal.S7x256x2112 .f32)
    (b : Fin 7) (r : Fin 256) (h : ∀ n : Fin 2112, y (ix2 r n) = Y (ix3 b r n)) (n : Fin 512) :
    kernelColumns512 y (ix2 r n) = referenceColumns512 Y (ix3 b r n) := by
  pointwise [kernelColumns512, referenceColumns512, h]

/-- Equal rows, normalised, are equal. -/
theorem normalised512_congr (y : FVec Ideal Cert.KernelIdeal.S256x512 .f32) (Y : FVec Ideal Cert.ReferenceIdeal.S7x256x512 .f32)
    (g : FVec Ideal Cert.KernelIdeal.S1x512 .f32) (G : FVec Ideal Cert.ReferenceIdeal.S512 .f32)
    (b : Fin 7) (r : Fin 256) (n : Fin 512) (hy : ∀ l : Fin 512, y (ix2 r l) = Y (ix3 b r l))
    (hg : g (ix2 0 n) = G (ix1 n)) :
    kernelScaled512 y (inverseRoot 0x44000000#32 (kernelSquares512 y)) g (ix2 r n)
      = referenceScaled512 Y (inverseRoot 0x44000000#32 (referenceSquares512 Y)) G (ix3 b r n) :=
  scaled512_congr _ _ _ _ _ _ b r n (hy n) (inverseRoot_congr 0x44000000#32 (squares512_congr y Y b r hy)) hg

/-! ## The last 64 columns -/

/-- The last 64 columns of the kernel's product. -/
def kernelColumns64 (y : FVec Ideal Cert.KernelIdeal.S256x2112 .f32) : FVec Ideal Cert.KernelIdeal.S256x64 .f32 :=
  extractStridedSlice Cert.KernelIdeal.S256x64 ![0, 2048] y Cert.KernelIdeal.Gen.slices_S256x2112_o0_2048_S256x64

/-- The last 64 columns of the reference's product. -/
def referenceColumns64 (Y : FVec Ideal Cert.ReferenceIdeal.S7x256x2112 .f32) : FVec Ideal Cert.ReferenceIdeal.S7x256x64 .f32 :=
  extractStridedSlice Cert.ReferenceIdeal.S7x256x64 ![0, 0, 2048] Y Cert.ReferenceIdeal.Gen.slices_S7x256x2112_o0_0_2048_S7x256x64

/-- Equal rows have equal last 64 columns. -/
theorem columns64_congr (y : FVec Ideal Cert.KernelIdeal.S256x2112 .f32) (Y : FVec Ideal Cert.ReferenceIdeal.S7x256x2112 .f32)
    (b : Fin 7) (r : Fin 256) (h : ∀ n : Fin 2112, y (ix2 r n) = Y (ix3 b r n)) (n : Fin 64) :
    kernelColumns64 y (ix2 r n) = referenceColumns64 Y (ix3 b r n) := by
  pointwise [kernelColumns64, referenceColumns64, h]

end Cert.Columns

end
-- ==== Proof.Equation.lean ====
module

public import proofs.«01_k».proof.Proof.Columns

@[expose] public section

set_option maxRecDepth 16384

noncomputable section

namespace Cert.Equation

open Idealize.ShloMosaic Cert.Rows Cert.Columns

/-- Codes times weights, each entry multiplied by its row's scale and its column's: equal rows of the two programs give equal
    products. The kernel's codes `q` are numbers already, the reference's `Q` are in eight bits. -/
theorem dequantised_congr (q : FVec Ideal Cert.KernelIdeal.S256x6144 .f32) (d : FVec Ideal Cert.KernelIdeal.S256x1 .f32)
    (s : FVec Ideal Cert.KernelIdeal.S1x2112 .f32) (Q : IVec Cert.ReferenceIdeal.S7x256x6144 8)
    (D : FVec Ideal Cert.ReferenceIdeal.S7x256 .f32) (S : FVec Ideal Cert.ReferenceIdeal.S2112 .f32)
    (w : IVec Cert.KernelIdeal.S2112x6144 8) (b : Fin 7) (r : Fin 256) (n : Fin 2112)
    (hq : ∀ k : Fin 6144, q (ix2 r k) = (((Q (ix3 b r k)).toInt : ℝ) : EReal)) (hd : d (ix2 r 0) = D (ix2 b r))
    (hs : s (ix2 0 n) = S (ix1 n)) :
    mulf
        (matmul Cert.KernelIdeal.dot_S256x6144_S2112x6144_S256x2112_1_1_0_0_n_n none
          (truncf .bf16 q Cert.KernelIdeal.Gen.bitsLt_bf16_f32) (sitofp .bf16 w)
          (constant Cert.KernelIdeal.S256x2112 .f32 0x00000000#32))
        (mulf (broadcastTo Cert.KernelIdeal.S256x2112 d Cert.KernelIdeal.Gen.broadcasts_S256x1_S256x2112)
          (broadcastTo Cert.KernelIdeal.S256x2112
            (shapeCast Cert.KernelIdeal.S1x2112 s Cert.KernelIdeal.Gen.shapeCasts_S1x2112_S1x2112)
            Cert.KernelIdeal.Gen.broadcasts_S1x2112_S256x2112)) (ix2 r n)
      = mulf
          (matmul Cert.ReferenceIdeal.dot_S7x256x6144_S2112x6144_S7x256x2112_2_1_01_0_n_n none
            (sitofp .bf16 Q) (sitofp (F := Ideal) .bf16 w) (constant Cert.ReferenceIdeal.S7x256x2112 .f32 0x00000000#32))
          (mulf
            (broadcastTo Cert.ReferenceIdeal.S7x256x2112
              (shapeCast Cert.ReferenceIdeal.S7x256x1 D Cert.ReferenceIdeal.Gen.shapeCasts_S7x256_S7x256x1)
              Cert.ReferenceIdeal.Gen.broadcasts_S7x256x1_S7x256x2112)
            (broadcastTo Cert.ReferenceIdeal.S7x256x2112
              (shapeCast Cert.ReferenceIdeal.S1x1x2112 S Cert.ReferenceIdeal.Gen.shapeCasts_S2112_S1x1x2112)
              Cert.ReferenceIdeal.Gen.broadcasts_S1x1x2112_S7x256x2112)) (ix3 b r n) := by
  have h : ∀ k : Fin 6144, q (ix2 r k) = FloatOps.sitofp (F := Ideal) .bf16 (Q (ix3 b r k)) := hq
  pointwise [h]
  rw [hd, hs]

variable {b : Fin 7} {x : FVec Ideal Cert.KernelIdeal.S256x6144 .bf16}
  {X : FVec Ideal Cert.ReferenceIdeal.S7x256x6144 .bf16} (hx : Entry b x X) (w : IVec Cert.KernelIdeal.S2112x6144 8)
  {s : FVec Ideal Cert.KernelIdeal.S1x2112 .f32} {S : FVec Ideal Cert.ReferenceIdeal.S2112 .f32}
  (hs : ∀ n : Fin 2112, s (ix2 0 n) = S (ix1 n))
include hx hs

/-- The dequantised product of a row with the weights is the reference's. -/
theorem product_eq (r : Fin 256) (n : Fin 2112) :
    Cert.KernelIdeal.Gen.k0_pay9 (F := Ideal) x w s (ix2 r n) = Cert.ReferenceIdeal.Gen.k0_pay7 (F := Ideal) X w S (ix3 b r n) :=
  dequantised_congr _ _ _ _ _ _ w b r n (code_value_eq hx r) (scale_eq hx r) (hs n)

/-- The normalised first 1536 columns are the reference's. -/
theorem q_eq {g : FVec Ideal Cert.KernelIdeal.S1x1536 .f32} {G : FVec Ideal Cert.ReferenceIdeal.S1536 .f32}
    (hg : ∀ n : Fin 1536, g (ix2 0 n) = G (ix1 n)) (r : Fin 256) (n : Fin 1536) :
    Cert.KernelIdeal.Gen.k0_pay1 (F := Ideal) (Cert.KernelIdeal.Gen.k0_pay10 x w s) g (ix2 r n)
      = Cert.ReferenceIdeal.Gen.k0_pay1 (F := Ideal) (Cert.ReferenceIdeal.Gen.k0_pay8 X w S) G
          (Cert.ReferenceIdeal.Gen.k0_pay11 X w S) (ix3 b r n) :=
  normalised1536_congr (kernelColumns1536 (Cert.KernelIdeal.Gen.k0_pay9 (F := Ideal) x w s))
    (referenceColumns1536 (Cert.ReferenceIdeal.Gen.k0_pay7 (F := Ideal) X w S)) g G b r n
    (columns1536_congr _ _ b r (product_eq hx w hs r)) (hg n)

/-- The normalised next 512 columns are the reference's. -/
theorem kv_eq {g : FVec Ideal Cert.KernelIdeal.S1x512 .f32} {G : FVec Ideal Cert.ReferenceIdeal.S512 .f32}
    (hg : ∀ n : Fin 512, g (ix2 0 n) = G (ix1 n)) (r : Fin 256) (n : Fin 512) :
    Cert.KernelIdeal.Gen.k0_pay2 (F := Ideal) (Cert.KernelIdeal.Gen.k0_pay9 x w s) g (ix2 r n)
      = Cert.ReferenceIdeal.Gen.k0_pay2 (F := Ideal) (Cert.ReferenceIdeal.Gen.k0_pay9 X w S) G (ix3 b r n) :=
  normalised512_congr (kernelColumns512 (Cert.KernelIdeal.Gen.k0_pay9 (F := Ideal) x w s))
    (referenceColumns512 (Cert.ReferenceIdeal.Gen.k0_pay7 (F := Ideal) X w S)) g G b r n
    (columns512_congr _ _ b r (product_eq hx w hs r)) (hg n)

/-- The last 64 columns, which are not normalised, are the reference's. -/
theorem pe_eq (r : Fin 256) (n : Fin 64) :
    Cert.KernelIdeal.Gen.k0_pay3 (F := Ideal) (Cert.KernelIdeal.Gen.k0_pay9 x w s) (ix2 r n)
      = Cert.ReferenceIdeal.Gen.k0_pay3 (F := Ideal) (Cert.ReferenceIdeal.Gen.k0_pay10 X w S) (ix3 b r n) :=
  columns64_congr (Cert.KernelIdeal.Gen.k0_pay9 (F := Ideal) x w s) (Cert.ReferenceIdeal.Gen.k0_pay7 (F := Ideal) X w S) b r
    (product_eq hx w hs r) n

end Cert.Equation

end
-- ==== Proof.Movement.lean ====
module

public import proofs.«01_k».proof.Proof.Gen.KernelIdeal
public import Idealize.ShloMosaic.Lib.Pipeline.ValueKit

@[expose] public section

set_option maxRecDepth 16384

noncomputable section

namespace Cert.Movement

open Idealize.ShloMosaic
open Cert.KernelIdeal Cert.KernelIdeal.Gen

variable {α : Type} (b : Fin 7) (r : Fin 256) (i : Fin 1792) (hi : i.val = 256 * b.val + r.val)
include hi

/-- Batches of rows of 6144 entries joined into one list: row `256 b + r` is row `r` of batch `b`. -/
theorem joined6144 (Y : S7x256x6144.Idx → α) (h : S7x256x6144.ShapeCasts S1792x6144) (n : Fin 6144) :
    shapeCast S1792x6144 Y h (ix2 i n) = Y (ix3 b r n) := by
  pointwise
  blk_ext

/-- Batches of rows of 1536 entries joined into one list: row `256 b + r` is row `r` of batch `b`. -/
theorem joined1536 (Y : S7x256x1536.Idx → α) (h : S7x256x1536.ShapeCasts S1792x1536) (n : Fin 1536) :
    shapeCast S1792x1536 Y h (ix2 i n) = Y (ix3 b r n) := by
  pointwise
  blk_ext

/-- Batches of rows of 512 entries joined into one list: row `256 b + r` is row `r` of batch `b`. -/
theorem joined512 (Y : S7x256x512.Idx → α) (h : S7x256x512.ShapeCasts S1792x512) (n : Fin 512) :
    shapeCast S1792x512 Y h (ix2 i n) = Y (ix3 b r n) := by
  pointwise
  blk_ext

/-- Batches of rows of 64 entries joined into one list: row `256 b + r` is row `r` of batch `b`. -/
theorem joined64 (Y : S7x256x64.Idx → α) (h : S7x256x64.ShapeCasts S1792x64) (n : Fin 64) :
    shapeCast S1792x64 Y h (ix2 i n) = Y (ix3 b r n) := by
  pointwise
  blk_ext

omit hi

/-- A scale for each row of each batch, with an axis of one between. -/
theorem spread (Y : S7x256.Idx → α) (h : S7x256.ShapeCasts S7x1x256) : shapeCast S7x1x256 Y h (ix3 b 0 r) = Y (ix2 b r) := by
  pointwise

end Cert.Movement

end
-- ==== Proof.Blocks.lean ====
module

public import proofs.«01_k».proof.Proof.Equation
public import proofs.«01_k».proof.Proof.Movement
public import proofs.«01_k».proof.Proof.Gen.KernelIdeal.Frame
public import Idealize.ShloMosaic.Lib.StableHlo.RunRead
public import Idealize.ShloMosaic.Lib.Pipeline.ValueKit

@[expose] public section

set_option maxRecDepth 16384

noncomputable section

namespace Cert.Blocks

open Idealize.ShloMosaic Idealize.ShloMosaic.TcCoe Idealize.SL.Sem
open Idealize.ShloMosaic.Pipeline (Dat)
open Cert.KernelIdeal Cert.KernelIdeal.Gen

/-- Where each window lies at grid point `t`: the rows move by one block of 256 a point; weights, column scales and gains stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0, 0] :=
  (by decide +kernel : ∀ t : Fin grid0.N, _)

/-- The batch a grid point works on: the grid has one point a batch. -/
def batch (t : Fin cfg0.N) : Fin 7 := ⟨t.val, t.isLt⟩

variable (m : (ℓ : Loc nD τ sig) → Buf (Elt Ideal) ℓ) (c : Dev nD) (t : Fin cfg0.N)

/-- The rows as the grid reads them are the first argument's, its batches joined. -/
theorem entry_rows : V m c main_v0 = shapeCast S1792x6144 (m ((c : Thread nD τ).loc main_arg0)) shapeCasts_S7x256x6144_S1792x6144 := by
  after_reads_simp
  rfl

/-- The column scales as the grid reads them are the third argument's, as one row. -/
theorem entry_scales : V m c main_v1 = broadcastInDim S1x2112 ![1] bcast_S2112_S1x2112_1 (m ((c : Thread nD τ).loc main_arg2)) := by
  after_reads_simp

/-- The first gains as the grid reads them are the fourth argument's, as one row. -/
theorem entry_gains : V m c main_v2 = broadcastInDim S1x1536 ![1] bcast_S1536_S1x1536_1 (m ((c : Thread nD τ).loc main_arg3)) := by
  after_reads_simp

/-- The second gains as the grid reads them are the fifth argument's, as one row. -/
theorem entry_gains' : V m c main_v3 = broadcastInDim S1x512 ![1] bcast_S512_S1x512_1 (m ((c : Thread nD τ).loc main_arg4)) := by
  after_reads_simp

/-- The row of the joined list that row `r` of batch `t` is. -/
def row (r : Fin 256) : Fin 1792 :=
  ⟨256 * t.val + r.val, by have := (batch t).isLt; have := r.isLt; simp only [batch] at *; omega⟩

/-- Row `r` of the block of rows at point `t` is row `r` of batch `t` of the first argument. -/
theorem rows : Cert.Rows.Entry (batch t) (iblk m c 0 t) (m ((c : Thread nD τ).loc main_arg0)) := by
  intro r k
  have he : (win0_0.blk t).view.emb (ix2 r k) = ix2 (row t r) k := by
    blk_ext [idx t, row]
  show V m c main_v0 ((win0_0.blk t).view.emb (ix2 r k)) = _
  rw [entry_rows, he]
  exact Cert.Movement.joined6144 (batch t) r (row t r) rfl _ _ k

/-- The block of weights is all of them. -/
theorem weights : iblk m c 1 t = m ((c : Thread nD τ).loc main_arg1) := by
  funext y
  blk_ext [iblk, V, idx t]

/-- The block of column scales is all of them, as one row. -/
theorem scales (n : Fin 2112) : iblk m c 2 t (ix2 0 n) = m ((c : Thread nD τ).loc main_arg2) (ix1 n) := by
  have he : (win0_2.blk t).view.emb (ix2 0 n) = (ix2 0 n : S1x2112.Idx) := by
    blk_ext [idx t]
  show V m c main_v1 ((win0_2.blk t).view.emb (ix2 0 n)) = _
  rw [entry_scales, he]
  pointwise

/-- The block of first gains is all of them, as one row. -/
theorem gains (n : Fin 1536) : iblk m c 3 t (ix2 0 n) = m ((c : Thread nD τ).loc main_arg3) (ix1 n) := by
  have he : (win0_3.blk t).view.emb (ix2 0 n) = (ix2 0 n : S1x1536.Idx) := by
    blk_ext [idx t]
  show V m c main_v2 ((win0_3.blk t).view.emb (ix2 0 n)) = _
  rw [entry_gains, he]
  pointwise

/-- The block of second gains is all of them, as one row. -/
theorem gains' (n : Fin 512) : iblk m c 4 t (ix2 0 n) = m ((c : Thread nD τ).loc main_arg4) (ix1 n) := by
  have he : (win0_4.blk t).view.emb (ix2 0 n) = (ix2 0 n : S1x512.Idx) := by
    blk_ext [idx t]
  show V m c main_v3 ((win0_4.blk t).view.emb (ix2 0 n)) = _
  rw [entry_gains', he]
  pointwise

end Cert.Blocks

end
-- ==== Proof.Arrays.lean ====
module

public import proofs.«01_k».proof.Proof.Blocks
public import proofs.«01_k».proof.Proof.Gen.ReferenceIdeal.Value

@[expose] public section

set_option maxRecDepth 16384

noncomputable section

namespace Cert.Arrays

open Idealize.ShloMosaic Idealize.ShloMosaic.TcCoe Idealize.SL.Sem
open Idealize.ShloMosaic.Pipeline (Dat)
open Cert.KernelIdeal Cert.KernelIdeal.Gen Cert.Blocks Cert.Movement

variable (m : (ℓ : Loc nD τ sig) → Buf (Elt Ideal) ℓ) (c : Dev nD)

/-- The reference's first result, of the kernel's arguments. -/
abbrev q : FVec Ideal S7x256x1536 .bf16 :=
  Cert.ReferenceIdeal.Value.G5 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

/-- The reference's second result, of the kernel's arguments. -/
abbrev kv : FVec Ideal S7x256x512 .bf16 :=
  Cert.ReferenceIdeal.Value.G6 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

/-- The reference's third result, of the kernel's arguments. -/
abbrev pe : FVec Ideal S7x256x64 .bf16 :=
  Cert.ReferenceIdeal.Value.G7 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

/-- The reference's fourth result, of the kernel's arguments. -/
abbrev codes : IVec S7x256x6144 8 :=
  Cert.ReferenceIdeal.Value.G8 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

/-- The reference's fifth result, of the kernel's arguments. -/
abbrev rowScales : FVec Ideal S7x256 .f32 :=
  Cert.ReferenceIdeal.Value.G9 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

/-- The grid's first result from its blocks: if every block is a batch of `Y`, the array is `Y`, its batches joined. -/
theorem final_q_of (Y : FVec Ideal S7x256x1536 .bf16)
    (h : ∀ (t : Fin cfg0.N) (r : Fin 256) (n : Fin 1536),
      k0_pay1 (F := Ideal) (k0_pay10 (iblk m c 0 t) (iblk m c 1 t) (iblk m c 2 t)) (iblk m c 3 t) (ix2 r n) = Y (ix3 (batch t) r n)) :
    (dats m 0 c).arrAt 5 (cfgs 0).N = shapeCast S1792x1536 Y shapeCasts_S1792x1536_S7x256x1536.symm := by
  refine (dats m 0 c).arrAt_eq_of_covers 5 _ (by decide +kernel) fun t _ y => ?_
  blk_simp
  rw [after0_5]
  frame_out
  idx_vars y
  have he : ((View.whole main_v4_0).slice (win0_5.rect t)).emb (ix2 y0 y1) = ix2 (row t y0) y1 := by
    blk_ext [idx t, row]
  rw [he, joined1536 (batch t) y0 (row t y0) rfl Y _ y1]
  exact h t y0 y1

/-- The grid leaves the reference's first result, its batches joined. -/
theorem final_q : (dats m 0 c).arrAt 5 (cfgs 0).N
    = shapeCast S1792x1536 (q m c) shapeCasts_S1792x1536_S7x256x1536.symm := by
  refine final_q_of m c _ fun t r n => ?_
  rw [weights m c t]
  exact Cert.Equation.q_eq (rows m c t) (m ((c : Thread nD τ).loc main_arg1)) (scales m c t) (gains m c t) r n

/-- The grid's second result from its blocks: if every block is a batch of `Y`, the array is `Y`, its batches joined. -/
theorem final_kv_of (Y : FVec Ideal S7x256x512 .bf16)
    (h : ∀ (t : Fin cfg0.N) (r : Fin 256) (n : Fin 512),
      k0_pay2 (F := Ideal) (k0_pay9 (iblk m c 0 t) (iblk m c 1 t) (iblk m c 2 t)) (iblk m c 4 t) (ix2 r n) = Y (ix3 (batch t) r n)) :
    (dats m 0 c).arrAt 6 (cfgs 0).N = shapeCast S1792x512 Y shapeCasts_S1792x512_S7x256x512.symm := by
  refine (dats m 0 c).arrAt_eq_of_covers 6 _ (by decide +kernel) fun t _ y => ?_
  blk_simp
  rw [after0_6]
  unfold_out out0_6; frame_out
  idx_vars y
  have he : ((View.whole main_v4_1).slice (win0_6.rect t)).emb (ix2 y0 y1) = ix2 (row t y0) y1 := by
    blk_ext [idx t, row]
  rw [he, joined512 (batch t) y0 (row t y0) rfl Y _ y1]
  exact h t y0 y1

/-- The grid leaves the reference's second result, its batches joined. -/
theorem final_kv : (dats m 0 c).arrAt 6 (cfgs 0).N
    = shapeCast S1792x512 (kv m c) shapeCasts_S1792x512_S7x256x512.symm := by
  refine final_kv_of m c _ fun t r n => ?_
  rw [weights m c t]
  exact Cert.Equation.kv_eq (rows m c t) (m ((c : Thread nD τ).loc main_arg1)) (scales m c t) (gains' m c t) r n

/-- The grid's third result from its blocks: if every block is a batch of `Y`, the array is `Y`, its batches joined. -/
theorem final_pe_of (Y : FVec Ideal S7x256x64 .bf16)
    (h : ∀ (t : Fin cfg0.N) (r : Fin 256) (n : Fin 64),
      k0_pay3 (F := Ideal) (k0_pay9 (iblk m c 0 t) (iblk m c 1 t) (iblk m c 2 t)) (ix2 r n) = Y (ix3 (batch t) r n)) :
    (dats m 0 c).arrAt 7 (cfgs 0).N = shapeCast S1792x64 Y shapeCasts_S1792x64_S7x256x64.symm := by
  refine (dats m 0 c).arrAt_eq_of_covers 7 _ (by decide +kernel) fun t _ y => ?_
  blk_simp
  rw [after0_7]
  unfold_out out0_7; frame_out
  idx_vars y
  have he : ((View.whole main_v4_2).slice (win0_7.rect t)).emb (ix2 y0 y1) = ix2 (row t y0) y1 := by
    blk_ext [idx t, row]
  rw [he, joined64 (batch t) y0 (row t y0) rfl Y _ y1]
  exact h t y0 y1

/-- The grid leaves the reference's third result, its batches joined. -/
theorem final_pe : (dats m 0 c).arrAt 7 (cfgs 0).N
    = shapeCast S1792x64 (pe m c) shapeCasts_S1792x64_S7x256x64.symm := by
  refine final_pe_of m c _ fun t r n => ?_
  rw [weights m c t]
  exact Cert.Equation.pe_eq (rows m c t) (m ((c : Thread nD τ).loc main_arg1)) (scales m c t) r n

/-- The grid's fourth result from its blocks: if every block is a batch of `Y`, the array is `Y`, its batches joined. -/
theorem final_codes_of (Y : IVec S7x256x6144 8)
    (h : ∀ (t : Fin cfg0.N) (r : Fin 256) (n : Fin 6144),
      k0_pay7 (F := Ideal) (iblk m c 0 t) (ix2 r n) = Y (ix3 (batch t) r n)) :
    (dats m 0 c).arrAt 8 (cfgs 0).N = shapeCast S1792x6144 Y shapeCasts_S1792x6144_S7x256x6144.symm := by
  refine (dats m 0 c).arrAt_eq_of_covers 8 _ (by decide +kernel) fun t _ y => ?_
  blk_simp
  rw [after0_8]
  frame_out
  idx_vars y
  have he : ((View.whole main_v4_3).slice (win0_8.rect t)).emb (ix2 y0 y1) = ix2 (row t y0) y1 := by
    blk_ext [idx t, row]
  rw [he, joined6144 (batch t) y0 (row t y0) rfl Y _ y1]
  exact h t y0 y1

/-- The grid leaves the reference's fourth result, its batches joined. -/
theorem final_codes : (dats m 0 c).arrAt 8 (cfgs 0).N
    = shapeCast S1792x6144 (codes m c) shapeCasts_S1792x6144_S7x256x6144.symm := by
  refine final_codes_of m c _ fun t r n => ?_
  exact Cert.Rows.code_eq (rows m c t) r n

/-- The grid's fifth result from its blocks: if every block is a batch of `Y`, the array is `Y`, with an axis of one between. -/
theorem final_rowScales_of (Y : FVec Ideal S7x256 .f32)
    (h : ∀ (t : Fin cfg0.N) (r : Fin 256), k0_pay8 (F := Ideal) (iblk m c 0 t) (ix3 0 0 r) = Y (ix2 (batch t) r)) :
    (dats m 0 c).arrAt 9 (cfgs 0).N = shapeCast S7x1x256 Y shapeCasts_S7x1x256_S7x256.symm := by
  refine (dats m 0 c).arrAt_eq_of_covers 9 _ (by decide +kernel) fun t _ y => ?_
  blk_simp
  rw [after0_9]
  frame_out
  idx_vars y
  obtain rfl : y0 = 0 := Subsingleton.elim _ _
  obtain rfl : y1 = 0 := Subsingleton.elim _ _
  have he : ((View.whole main_v4_4).slice (win0_9.rect t)).emb (ix3 0 0 y2) = ix3 (batch t) 0 y2 := by
    blk_ext [idx t, batch]
  rw [he, spread (batch t) y2 Y]
  exact h t y2

/-- The grid leaves the reference's fifth result, with an axis of one between. -/
theorem final_rowScales : (dats m 0 c).arrAt 9 (cfgs 0).N
    = shapeCast S7x1x256 (rowScales m c) shapeCasts_S7x1x256_S7x256.symm :=
  final_rowScales_of m c _ fun t r => Cert.Rows.scale_row_eq (rows m c t) r

end Cert.Arrays

end
-- ==== Proof.KernelRun.lean ====
module

public import proofs.«01_k».proof.Proof.Arrays
public import Idealize.ShloMosaic.Lib.Claim

@[expose] public section

set_option maxRecDepth 16384

noncomputable section

namespace Cert.KernelRun

open Idealize.ShloMosaic Idealize.ShloMosaic.TcCoe Idealize.SL.Sem
open Idealize.ShloMosaic.Pipeline (Dat)
open Cert.KernelIdeal Cert.KernelIdeal.Gen Cert.Arrays

variable (m : (ℓ : Loc nD τ sig) → Buf (Elt Ideal) ℓ) (ρ : Dev nD → PrngReg)

/-- The contents at the end of the run. -/
abbrev last (c : Dev nD) (b : Ref sig .tc) : Buf (Elt Ideal) ((c : Thread nD τ).loc b) :=
  Pipeline.afterTail₀ cfgs (dats m) 0 (V0 m) [hostOps1] c b

/-- The operations after the grid leave each of its arrays as the grid left it, until they read it. -/
theorem array (c : Dev nD) (w : Fin cfg0.W) :
    Pipeline.withArrays (cfgs 0).spec c (V0 m c) (fun w => (dats m 0 c).arrAt w (cfgs 0).N) (Proc.devRef .tc (Pipeline.arrRef spec0 w))
      = (dats m 0 c).arrAt w (cfgs 0).N :=
  Pipeline.withArrays_arr spec0 launch0.win.arr_inj c (V0 m c) _ w

/-- The first result ends as the reference's. -/
theorem last_q (c : Dev nD) : last m c main_v5 = q m c := by
  unfold last Pipeline.afterTail₀
  after_reads_simp
  exact (congrArg (fun Z => shapeCast S7x256x1536 Z shapeCasts_S1792x1536_S7x256x1536) ((array m c 5).trans (final_q m c))).trans
    (shapeCast_shapeCast (q m c) _ _)

/-- The second result ends as the reference's. -/
theorem last_kv (c : Dev nD) : last m c main_v6 = kv m c := by
  unfold last Pipeline.afterTail₀
  after_reads_simp
  exact (congrArg (fun Z => shapeCast S7x256x512 Z shapeCasts_S1792x512_S7x256x512) ((array m c 6).trans (final_kv m c))).trans
    (shapeCast_shapeCast (kv m c) _ _)

/-- The third result ends as the reference's. -/
theorem last_pe (c : Dev nD) : last m c main_v7 = pe m c := by
  unfold last Pipeline.afterTail₀
  after_reads_simp
  exact (congrArg (fun Z => shapeCast S7x256x64 Z shapeCasts_S1792x64_S7x256x64) ((array m c 7).trans (final_pe m c))).trans
    (shapeCast_shapeCast (pe m c) _ _)

/-- The fourth result ends as the reference's. -/
theorem last_codes (c : Dev nD) : last m c main_v8 = codes m c := by
  unfold last Pipeline.afterTail₀
  after_reads_simp
  exact (congrArg (fun Z => shapeCast S7x256x6144 Z shapeCasts_S1792x6144_S7x256x6144) ((array m c 8).trans (final_codes m c))).trans
    (shapeCast_shapeCast (codes m c) _ _)

/-- The fifth result ends as the reference's. -/
theorem last_rowScales (c : Dev nD) : last m c main_v9 = rowScales m c := by
  unfold last Pipeline.afterTail₀
  after_reads_simp
  exact (congrArg (fun Z => shapeCast S7x256 Z shapeCasts_S7x1x256_S7x256) ((array m c 9).trans (final_rowScales m c))).trans
    (shapeCast_shapeCast (rowScales m c) _ _)

/-- The kernel ends with the reference's five results of its arguments, and its arguments unchanged. -/
theorem run : θ_run defs (onTc (τ := τ) (main (F := Ideal))) ⟨m, fun _ => 0, ρ⟩ (fun r => ∀ c : Dev nD,
      r.2.mem ((c.tc : Thread nD τ).loc main_v5) = q m c
      ∧ r.2.mem ((c.tc : Thread nD τ).loc main_v6) = kv m c
      ∧ r.2.mem ((c.tc : Thread nD τ).loc main_v7) = pe m c
      ∧ r.2.mem ((c.tc : Thread nD τ).loc main_v8) = codes m c
      ∧ r.2.mem ((c.tc : Thread nD τ).loc main_v9) = rowScales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_main m ρ)
  refine ⟨((h c).2 main_v5 (Pipeline.mem_restRefs_of main_v5 (by decide) (by decide))).trans (last_q m c),
    ((h c).2 main_v6 (Pipeline.mem_restRefs_of main_v6 (by decide) (by decide))).trans (last_kv m c),
    ((h c).2 main_v7 (Pipeline.mem_restRefs_of main_v7 (by decide) (by decide))).trans (last_pe m c),
    ((h c).2 main_v8 (Pipeline.mem_restRefs_of main_v8 (by decide) (by decide))).trans (last_codes m c),
    ((h c).2 main_v9 (Pipeline.mem_restRefs_of main_v9 (by decide) (by decide))).trans (last_rowScales m c),
    ((h c).2 main_arg0 (Pipeline.mem_restRefs_of main_arg0 (by decide) (by decide))).trans (W_main_arg0 m (dats m) c), ?_,
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c)⟩
  exact ((h c).1 1).trans (((dats m 0 c).arrAt_in 1 rfl _).trans ((A_eq m c 1).trans (V_main_arg1 m c)))

end Cert.KernelRun

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelRun
public import Idealize.ShloMosaic.Adequacy
public import Idealize.ShloMosaic.Init

@[expose] public section

noncomputable section

namespace Cert.Proof

open Idealize.ShloMosaic Idealize.SL.Sem

/-- Over exact arithmetic the kernel and the reference, run on the same arguments, end with the same five results: `q` and
    `kv` normalised, `pe`, the eight-bit codes and their scales; both leave their arguments unchanged. -/
theorem algebraic : algebraic_KernelIdeal_ReferenceIdeal (hKernelIdeal := Cert.KernelIdeal.Gen.facts)
    (hReferenceIdeal := Cert.ReferenceIdeal.Gen.facts) := by
  intro m g m' g' _ hargs
  refine ⟨Cert.Arrays.q m, Cert.Arrays.kv m, Cert.Arrays.pe m, Cert.Arrays.codes m, Cert.Arrays.rowScales m,
    Cert.KernelRun.run m g, ?_⟩
  refine (θ_run _ _ _).mono (fun r h c => ?_) (Cert.ReferenceIdeal.Value.run m' g')
  obtain ⟨e0, e1, e2, e3, e4⟩ := hargs c
  have hc := h c
  rw [e0, e1, e2, e3, e4] at hc
  rw [e0, e1, e2, e3, e4]
  exact hc

/-- All five claims: each program ends, its arguments unchanged and its counters at zero; the idealized kernel is the kernel
    read over exact arithmetic; its results are the reference's. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
